-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x10000x128 : Shape := ⟨3, ![1, 10000, 128]⟩
abbrev S10000x10000 : Shape := ⟨2, ![10000, 10000]⟩
abbrev S64x128 : Shape := ⟨2, ![64, 128]⟩
abbrev S128x128 : Shape := ⟨2, ![128, 128]⟩
abbrev S32 : Shape := ⟨1, ![32]⟩
abbrev S64 : Shape := ⟨1, ![64]⟩
abbrev S10000x128 : Shape := ⟨2, ![10000, 128]⟩
abbrev S1x64 : Shape := ⟨2, ![1, 64]⟩
abbrev S10000x64 : Shape := ⟨2, ![10000, 64]⟩
abbrev S1x32 : Shape := ⟨2, ![1, 32]⟩
abbrev S2000x128 : Shape := ⟨2, ![2000, 128]⟩
abbrev S2000x64 : Shape := ⟨2, ![2000, 64]⟩
abbrev S128x64 : Shape := ⟨2, ![128, 64]⟩
abbrev S400x10000 : Shape := ⟨2, ![400, 10000]⟩
abbrev S400x64 : Shape := ⟨2, ![400, 64]⟩
abbrev S400x128 : Shape := ⟨2, ![400, 128]⟩
abbrev S400x16 : Shape := ⟨2, ![400, 16]⟩
abbrev S400 : Shape := ⟨1, ![400]⟩
abbrev S400x1 : Shape := ⟨2, ![400, 1]⟩
abbrev S400x32 : Shape := ⟨2, ![400, 32]⟩

abbrev nBuf : Space → Nat
  | .hbm => 20
  | .vmem => 37
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S64x128, .f32⟩
  | .hbm, ⟨3, _⟩ => ⟨S64x128, .f32⟩
  | .hbm, ⟨4, _⟩ => ⟨S128x128, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S10000x128, .f32⟩
  | .hbm, ⟨9, _⟩ => ⟨S1x64, .f32⟩
  | .hbm, ⟨10, _⟩ => ⟨S10000x64, .f32⟩
  | .hbm, ⟨11, _⟩ => ⟨S10000x64, .f32⟩
  | .hbm, ⟨12, _⟩ => ⟨S10000x64, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x32, .f32⟩
  | .hbm, ⟨17, _⟩ => ⟨S1x32, .f32⟩
  | .hbm, ⟨18, _⟩ => ⟨S10000x128, .f32⟩
  | .hbm, ⟨19, _⟩ => ⟨S1x10000x128, .f32⟩
  | .local _ .vmem, ⟨0, _⟩ => ⟨S2000x128, .f32⟩
  | .local _ .vmem, ⟨1, _⟩ => ⟨S2000x128, .f32⟩
  | .local _ .vmem, ⟨2, _⟩ => ⟨S64x128, .f32⟩
  | .local _ .vmem, ⟨3, _⟩ => ⟨S64x128, .f32⟩
  | .local _ .vmem, ⟨4, _⟩ => ⟨S128x128, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x128, .f32⟩
  | .local _ .vmem, ⟨13, _⟩ => ⟨S2000x128, .f32⟩
  | .local _ .vmem, ⟨14, _⟩ => ⟨S400x10000, .f32⟩
  | .local _ .vmem, ⟨15, _⟩ => ⟨S400x10000, .f32⟩
  | .local _ .vmem, ⟨16, _⟩ => ⟨S10000x64, .f32⟩
  | .local _ .vmem, ⟨17, _⟩ => ⟨S1x64, .f32⟩
  | .local _ .vmem, ⟨18, _⟩ => ⟨S400x64, .f32⟩
  | .local _ .vmem, ⟨19, _⟩ => ⟨S400x64, .f32⟩
  | .local _ .vmem, ⟨20, _⟩ => ⟨S400x64, .f32⟩
  | .local _ .vmem, ⟨21, _⟩ => ⟨S400x64, .f32⟩
  | .local _ .vmem, ⟨22, _⟩ => ⟨S400x10000, .f32⟩
  | .local _ .vmem, ⟨23, _⟩ => ⟨S400x10000, .f32⟩
  | .local _ .vmem, ⟨24, _⟩ => ⟨S10000x64, .f32⟩
  | .local _ .vmem, ⟨25, _⟩ => ⟨S400x64, .f32⟩
  | .local _ .vmem, ⟨26, _⟩ => ⟨S400x64, .f32⟩
  | .local _ .vmem, ⟨27, _⟩ => ⟨S400x64, .f32⟩
  | .local _ .vmem, ⟨28, _⟩ => ⟨S400x64, .f32⟩
  | .local _ .vmem, ⟨29, _⟩ => ⟨S400x64, .f32⟩
  | .local _ .vmem, ⟨30, _⟩ => ⟨S400x64, .f32⟩
  | .local _ .vmem, ⟨31, _⟩ => ⟨S400x128, .f32⟩
  | .local _ .vmem, ⟨32, _⟩ => ⟨S400x128, .f32⟩
  | .local _ .vmem, ⟨33, _⟩ => ⟨S1x32, .f32⟩
  | .local _ .vmem, ⟨34, _⟩ => ⟨S1x32, .f32⟩
  | .local _ .vmem, ⟨35, _⟩ => ⟨S400x128, .f32⟩
  | .local _ .vmem, ⟨36, _⟩ => ⟨S400x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2_0 : Ref sig .tc := ⟨.hbm, 10, rfl⟩
abbrev main_call0_v2_1 : Ref sig .tc := ⟨.hbm, 11, rfl⟩
abbrev main_call0_v2_2 : Ref sig .tc := ⟨.hbm, 12, rfl⟩
abbrev main_call0_v2_3 : Ref sig .tc := ⟨.hbm, 13, rfl⟩
abbrev main_call0_v3_0 : Ref sig .tc := ⟨.hbm, 14, rfl⟩
abbrev main_call0_v3_1 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg8_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem7_0 : DmaSem sig := 34
abbrev cc2_sem8_0 : DmaSem sig := 35
abbrev cc2_sem8_1 : DmaSem sig := 36

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S400x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== ReferenceIdeal.lean ====
abbrev S1x10000x128 : Shape := ⟨3, ![1, 10000, 128]⟩
abbrev S10000x10000 : Shape := ⟨2, ![10000, 10000]⟩
abbrev S64x128 : Shape := ⟨2, ![64, 128]⟩
abbrev S128x128 : Shape := ⟨2, ![128, 128]⟩
abbrev S32 : Shape := ⟨1, ![32]⟩
abbrev S4 : Shape := ⟨1, ![4]⟩
abbrev S1x1x4x1 : Shape := ⟨4, ![1, 1, 4, 1]⟩
abbrev S128x64 : Shape := ⟨2, ![128, 64]⟩
abbrev S1x10000x64 : Shape := ⟨3, ![1, 10000, 64]⟩
abbrev S_ : Shape := ⟨0, ![]⟩
abbrev S1x10000x4x16 : Shape := ⟨4, ![1, 10000, 4, 16]⟩
abbrev S10000x1x4x16 : Shape := ⟨4, ![10000, 1, 4, 16]⟩
abbrev S10000x64 : Shape := ⟨2, ![10000, 64]⟩
abbrev S1x10000x4 : Shape := ⟨3, ![1, 10000, 4]⟩
abbrev S1x10000x4x1 : Shape := ⟨4, ![1, 10000, 4, 1]⟩
abbrev S1x10000x4x32 : Shape := ⟨4, ![1, 10000, 4, 32]⟩
abbrev S1x1x1x32 : Shape := ⟨4, ![1, 1, 1, 32]⟩
abbrev S10000x1x128 : Shape := ⟨3, ![10000, 1, 128]⟩

abbrev nBuf : Space → Nat
  | .hbm => 123
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S64x128, .f32⟩
  | .hbm, ⟨3, _⟩ => ⟨S64x128, .f32⟩
  | .hbm, ⟨4, _⟩ => ⟨S128x128, .f32⟩
  | .hbm, ⟨5, _⟩ => ⟨S32, .f32⟩
  | .hbm, ⟨6, _⟩ => ⟨S32, .f32⟩
  | .hbm, ⟨7, _⟩ => ⟨S4, .f32⟩
  | .hbm, ⟨8, _⟩ => ⟨S1x1x4x1, .f32⟩
  | .hbm, ⟨9, _⟩ => ⟨S128x64, .f32⟩
  | .hbm, ⟨10, _⟩ => ⟨S1x10000x64, .f32⟩
  | .hbm, ⟨11, _⟩ => ⟨S_, .f32⟩
  | .hbm, ⟨12, _⟩ => ⟨S1x10000x64, .f32⟩
  | .hbm, ⟨13, _⟩ => ⟨S1x10000x64, .i1⟩
  | .hbm, ⟨14, _⟩ => ⟨S_, .f32⟩
  | .hbm, ⟨15, _⟩ => ⟨S1x10000x64, .f32⟩
  | .hbm, ⟨16, _⟩ => ⟨S1x10000x64, .i1⟩
  | .hbm, ⟨17, _⟩ => ⟨S_, .f32⟩
  | .hbm, ⟨18, _⟩ => ⟨S_, .f32⟩
  | .hbm, ⟨19, _⟩ => ⟨S1x10000x64, .f32⟩
  | .hbm, ⟨20, _⟩ => ⟨S1x10000x64, .f32⟩
  | .hbm, ⟨21, _⟩ => ⟨S1x10000x64, .f32⟩
  | .hbm, ⟨22, _⟩ => ⟨S_, .f32⟩
  | .hbm, ⟨23, _⟩ => ⟨S1x10000x64, .f32⟩
  | .hbm, ⟨24, _⟩ => ⟨S1x10000x64, .f32⟩
  | .hbm, ⟨25, _⟩ => ⟨S1x10000x64, .f32⟩
  | .hbm, ⟨26, _⟩ => ⟨S_, .f32⟩
  | .hbm, ⟨27, _⟩ => ⟨S1x10000x64, .f32⟩
  | .hbm, ⟨28, _⟩ => ⟨S1x10000x64, .f32⟩
  | .hbm, ⟨29, _⟩ => ⟨S128x64, .f32⟩
  | .hbm, ⟨30, _⟩ => ⟨S1x10000x64, .f32⟩
  | .hbm, ⟨31, _⟩ => ⟨S_, .f32⟩
  | .hbm, ⟨32, _⟩ => ⟨S1x10000x64, .f32⟩
  | .hbm, ⟨33, _⟩ => ⟨S1x10000x64, .i1⟩
  | .hbm, ⟨34, _⟩ => ⟨S_, .f32⟩
  | .hbm, ⟨35, _⟩ => ⟨S1x10000x64, .f32⟩
  | .hbm, ⟨36, _⟩ => ⟨S1x10000x64, .i1⟩
  | .hbm, ⟨37, _⟩ => ⟨S_, .f32⟩
  | .hbm, ⟨38, _⟩ => ⟨S_, .f32⟩
  | .hbm, ⟨39, _⟩ => ⟨S1x10000x64, .f32⟩
  | .hbm, ⟨40, _⟩ => ⟨S1x10000x64, .f32⟩
  | .hbm, ⟨41, _⟩ => ⟨S1x10000x64, .f32⟩
  | .hbm, ⟨42, _⟩ => ⟨S_, .f32⟩
  | .hbm, ⟨43, _⟩ => ⟨S1x10000x64, .f32⟩
  | .hbm, ⟨44, _⟩ => ⟨S1x10000x64, .f32⟩
  | .hbm, ⟨45, _⟩ => ⟨S1x10000x64, .f32⟩
  | .hbm, ⟨46, _⟩ => ⟨S_, .f32⟩
  | .hbm, ⟨47, _⟩ => ⟨S1x10000x64, .f32⟩
  | .hbm, ⟨48, _⟩ => ⟨S1x10000x64, .f32⟩
  | .hbm, ⟨49, _⟩ => ⟨S128x128, .f32⟩
  | .hbm, ⟨50, _⟩ => ⟨S1x10000x128, .f32⟩
  | .hbm, ⟨51, _⟩ => ⟨S1x10000x4x16, .f32⟩
  | .hbm, ⟨52, _⟩ => ⟨S10000x1x4x16, .f32⟩
  | .hbm, ⟨53, _⟩ => ⟨S10000x1x4x16, .f32⟩
  | .hbm, ⟨54, _⟩ => ⟨S10000x1x4x16, .f32⟩
  | .hbm, ⟨55, _⟩ => ⟨S10000x64, .f32⟩
  | .hbm, ⟨56, _⟩ => ⟨S10000x64, .f32⟩
  | .hbm, ⟨57, _⟩ => ⟨S10000x1x4x16, .f32⟩
  | .hbm, ⟨58, _⟩ => ⟨S10000x1x4x16, .f32⟩
  | .hbm, ⟨59, _⟩ => ⟨S10000x1x4x16, .f32⟩
  | .hbm, ⟨60, _⟩ => ⟨S10000x1x4x16, .f32⟩
  | .hbm, ⟨61, _⟩ => ⟨S10000x64, .f32⟩
  | .hbm, ⟨62, _⟩ => ⟨S10000x64, .f32⟩
  | .hbm, ⟨63, _⟩ => ⟨S10000x1x4x16, .f32⟩
  | .hbm, ⟨64, _⟩ => ⟨S10000x1x4x16, .f32⟩
  | .hbm, ⟨65, _⟩ => ⟨S1x10000x4x16, .f32⟩
  | .hbm, ⟨66, _⟩ => ⟨S1x10000x4x16, .f32⟩
  | .hbm, ⟨67, _⟩ => ⟨S1x10000x4x16, .f32⟩
  | .hbm, ⟨68, _⟩ => ⟨S_, .f32⟩
  | .hbm, ⟨69, _⟩ => ⟨S1x10000x4, .f32⟩
  | .hbm, ⟨70, _⟩ => ⟨S1x10000x4x1, .f32⟩
  | .hbm, ⟨71, _⟩ => ⟨S_, .f32⟩
  | .hbm, ⟨72, _⟩ => ⟨S1x10000x4x1, .f32⟩
  | .hbm, ⟨73, _⟩ => ⟨S1x10000x4x1, .f32⟩
  | .hbm, ⟨74, _⟩ => ⟨S1x10000x4x32, .f32⟩
  | .hbm, ⟨75, _⟩ => ⟨S1x10000x4x32, .f32⟩
  | .hbm, ⟨76, _⟩ => ⟨S1x10000x4x32, .f32⟩
  | .hbm, ⟨77, _⟩ => ⟨S_, .f32⟩
  | .hbm, ⟨78, _⟩ => ⟨S1x10000x4, .f32⟩
  | .hbm, ⟨79, _⟩ => ⟨S1x10000x4x1, .f32⟩
  | .hbm, ⟨80, _⟩ => ⟨S_, .f32⟩
  | .hbm, ⟨81, _⟩ => ⟨S1x10000x4x1, .f32⟩
  | .hbm, ⟨82, _⟩ => ⟨S1x10000x4x1, .f32⟩
  | .hbm, ⟨83, _⟩ => ⟨S_, .i32⟩
  | .hbm, ⟨84, _⟩ => ⟨S_, .f32⟩
  | .hbm, ⟨85, _⟩ => ⟨S1x10000x4, .f32⟩
  | .hbm, ⟨86, _⟩ => ⟨S1x10000x4x1, .f32⟩
  | .hbm, ⟨87, _⟩ => ⟨S_, .f32⟩
  | .hbm, ⟨88, _⟩ => ⟨S1x10000x4x1, .f32⟩
  | .hbm, ⟨89, _⟩ => ⟨S1x10000x4x1, .f32⟩
  | .hbm, ⟨90, _⟩ => ⟨S1x10000x4x32, .f32⟩
  | .hbm, ⟨91, _⟩ => ⟨S1x10000x4x32, .f32⟩
  | .hbm, ⟨92, _⟩ => ⟨S1x10000x4x32, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S1x10000x4, .f32⟩
  | .hbm, ⟨98, _⟩ => ⟨S1x10000x4x1, .f32⟩
  | .hbm, ⟨99, _⟩ => ⟨S1x10000x4x1, .f32⟩
  | .hbm, ⟨100, _⟩ => ⟨S1x10000x4x1, .f32⟩
  | .hbm, ⟨101, _⟩ => ⟨S_, .f32⟩
  | .hbm, ⟨102, _⟩ => ⟨S_, .i1⟩
  | .hbm, ⟨103, _⟩ => ⟨S_, .f32⟩
  | .hbm, ⟨104, _⟩ => ⟨S_, .f32⟩
  | .hbm, ⟨105, _⟩ => ⟨S1x10000x4x1, .f32⟩
  | .hbm, ⟨106, _⟩ => ⟨S1x10000x4x1, .f32⟩
  | .hbm, ⟨107, _⟩ => ⟨S1x10000x4x32, .f32⟩
  | .hbm, ⟨108, _⟩ => ⟨S1x10000x4x32, .f32⟩
  | .hbm, ⟨109, _⟩ => ⟨S_, .f32⟩
  | .hbm, ⟨110, _⟩ => ⟨S1x10000x4x1, .f32⟩
  | .hbm, ⟨111, _⟩ => ⟨S1x10000x4x1, .f32⟩
  | .hbm, ⟨112, _⟩ => ⟨S1x10000x4x1, .f32⟩
  | .hbm, ⟨113, _⟩ => ⟨S1x10000x4x32, .f32⟩
  | .hbm, ⟨114, _⟩ => ⟨S1x10000x4x32, .f32⟩
  | .hbm, ⟨115, _⟩ => ⟨S1x1x1x32, .f32⟩
  | .hbm, ⟨116, _⟩ => ⟨S1x10000x4x32, .f32⟩
  | .hbm, ⟨117, _⟩ => ⟨S1x10000x4x32, .f32⟩
  | .hbm, ⟨118, _⟩ => ⟨S1x1x1x32, .f32⟩
  | .hbm, ⟨119, _⟩ => ⟨S1x10000x4x32, .f32⟩
  | .hbm, ⟨120, _⟩ => ⟨S1x10000x4x32, .f32⟩
  | .hbm, ⟨121, _⟩ => ⟨S10000x1x128, .f32⟩
  | .hbm, ⟨122, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_v4 : Ref sig .tc := ⟨.hbm, 20, rfl⟩
abbrev main_call0_v5 : Ref sig .tc := ⟨.hbm, 21, rfl⟩
abbrev main_call0_cst_2 : Ref sig .tc := ⟨.hbm, 22, rfl⟩
abbrev main_call0_v6 : Ref sig .tc := ⟨.hbm, 23, rfl⟩
abbrev main_call0_v7 : Ref sig .tc := ⟨.hbm, 24, rfl⟩
abbrev main_v3 : Ref sig .tc := ⟨.hbm, 25, rfl⟩
abbrev main_cst_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_cst_0 : Ref sig .tc := ⟨.hbm, 34, rfl⟩
abbrev main_call1_v2 : Ref sig .tc := ⟨.hbm, 35, rfl⟩
abbrev main_call1_v3 : Ref sig .tc := ⟨.hbm, 36, rfl⟩
abbrev main_call1_cst_1 : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_v4 : Ref sig .tc := ⟨.hbm, 40, rfl⟩
abbrev main_call1_v5 : Ref sig .tc := ⟨.hbm, 41, rfl⟩
abbrev main_call1_cst_2 : Ref sig .tc := ⟨.hbm, 42, rfl⟩
abbrev main_call1_v6 : Ref sig .tc := ⟨.hbm, 43, rfl⟩
abbrev main_call1_v7 : Ref sig .tc := ⟨.hbm, 44, rfl⟩
abbrev main_v8 : Ref sig .tc := ⟨.hbm, 45, rfl⟩
abbrev main_cst_1 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_2 : Ref sig .tc := ⟨.hbm, 68, rfl⟩
abbrev main_v30 : Ref sig .tc := ⟨.hbm, 69, rfl⟩
abbrev main_v31 : Ref sig .tc := ⟨.hbm, 70, rfl⟩
abbrev main_cst_3 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_4 : Ref sig .tc := ⟨.hbm, 77, rfl⟩
abbrev main_v37 : Ref sig .tc := ⟨.hbm, 78, rfl⟩
abbrev main_v38 : Ref sig .tc := ⟨.hbm, 79, rfl⟩
abbrev main_cst_5 : Ref sig .tc := ⟨.hbm, 80, rfl⟩
abbrev main_v39 : Ref sig .tc := ⟨.hbm, 81, rfl⟩
abbrev main_v40 : Ref sig .tc := ⟨.hbm, 82, rfl⟩
abbrev main_c : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_cst_1 : Ref sig .tc := ⟨.hbm, 94, rfl⟩
abbrev main_call2_v8 : Ref sig .tc := ⟨.hbm, 95, rfl⟩
abbrev main_call2_cst_2 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_cst_3 : Ref sig .tc := ⟨.hbm, 101, rfl⟩
abbrev main_call2_v13 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_cst_6 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩

abbrev nD : Nat := 1
abbrev τ : Topo := Topo.v7x

variable {F : FTy → Type} [FloatOps F]
-- ==== Proof.Spec.lean ====
/-
  What the layer computes, written over the extended reals and away from either program: the feature map of keys and
  queries, the two propagation steps through the connection matrix, and the normalised, gated values of one head. The two
  programs spell three places differently (the feature map, the mean over the 16 lanes of a head, the division by the
  standard deviation); the lemmas at the end say that the spellings agree, at every extended real.
-/
module

public import proofs.«01_k».proof.KernelIdeal
public import Idealize.ShloMosaic.Lib.Pipeline.ValueKit

@[expose] public section

set_option maxRecDepth 16384

noncomputable section

open Idealize.ShloMosaic

namespace Cert.Spec

open Cert.KernelIdeal

/-! ## The scalar pieces -/

/-- The feature map `elu z + 1`: `z + 1` where `z` is positive, `exp z` elsewhere. -/
def feat (z : EReal) : EReal := if 0 < z then z + 1 else Ideal.exp z

/-- The values of one head of one node times the node's gate, the mean over the 16 lanes of key times query. -/
def gated (k q : Fin 16 → EReal) (v : Fin 32 → EReal) (c : Fin 32) : EReal :=
  v c * ((∑ a, k a * q a) * Ideal.ofBits .f32 0x3D800000#32)

/-- The mean of 32 numbers. -/
def mean (v : Fin 32 → EReal) : EReal := Ideal.div (∑ c, v c) (Ideal.ofBits .f32 0x42000000#32)

/-- The (biased) variance of 32 numbers. -/
def variance (v : Fin 32 → EReal) : EReal :=
  Ideal.div (∑ c, (v c - mean v) * (v c - mean v)) (Ideal.ofBits .f32 0x42000000#32)

/-- The layer normalisation of 32 numbers, with weight `w` and bias `b`, at lane `c`. -/
def normed (v w b : Fin 32 → EReal) (c : Fin 32) : EReal :=
  (v c - mean v) * Ideal.rsqrt (variance v + Ideal.ofBits .f32 0x3727C5AC#32) * w c + b c

/-! ## The arrays -/

/-- Keys or queries before propagation: the feature map of `x · wᵀ`. -/
def keys (x : FVec Ideal S10000x128 .f32) (w : FVec Ideal S64x128 .f32) : FVec Ideal S10000x64 .f32 :=
  fun j => feat (∑ i : Fin 128, x (ix2 (j 0) i) * w (ix2 (j 1) i))

/-- The values: `x · wᵀ`. -/
def vals (x : FVec Ideal S10000x128 .f32) (w : FVec Ideal S128x128 .f32) : FVec Ideal S10000x128 .f32 :=
  fun j => ∑ i : Fin 128, x (ix2 (j 0) i) * w (ix2 (j 1) i)

/-- Every column of `p` times that column's decay. -/
def decayed (p : FVec Ideal S10000x64 .f32) (d : FVec Ideal S1x64 .f32) : FVec Ideal S10000x64 .f32 :=
  fun j => p j * d (ix2 0 (j 1))

/-- One step through the connection matrix: `A · p`. -/
def hop (A : FVec Ideal S10000x10000 .f32) (p : FVec Ideal S10000x64 .f32) : FVec Ideal S10000x64 .f32 :=
  fun j => ∑ i : Fin 10000, A (ix2 (j 0) i) * p (ix2 i (j 1))

/-- The sum of the keys and of the two propagated keys, in the order both programs add them. -/
def total (k p q : FVec Ideal S10000x64 .f32) : FVec Ideal S10000x64 .f32 := fun j => k j + p j + q j

/-- Lane `a` of head `h` of a row of 64 columns. -/
def col16 (h : Fin 4) (a : Fin 16) : Fin 64 := ⟨16 * h.val + a.val, by omega⟩

/-- Lane `c` of head `h` of a row of 128 columns. -/
def col32 (h : Fin 4) (c : Fin 32) : Fin 128 := ⟨32 * h.val + c.val, by omega⟩

/-- The layer's result at head `h`, lane `c` of one node, from the node's rows of propagated keys, queries and values, and
    the weight and bias of the normalisation. -/
def head (k q : Fin 64 → EReal) (v : Fin 128 → EReal) (w b : Fin 32 → EReal) (h : Fin 4) (c : Fin 32) : EReal :=
  normed (gated (fun a => k (col16 h a)) (fun a => q (col16 h a)) fun c => v (col32 h c)) w b c

/-- `head` depends on its rows lane by lane. -/
theorem head_congr {k k' q q' : Fin 64 → EReal} {v v' : Fin 128 → EReal} {w w' b b' : Fin 32 → EReal} {h h' : Fin 4}
    {c c' : Fin 32} (hk : ∀ a, k a = k' a) (hq : ∀ a, q a = q' a) (hv : ∀ a, v a = v' a) (hw : ∀ a, w a = w' a)
    (hb : ∀ a, b a = b' a) (hh : (h : ℕ) = h') (hc : (c : ℕ) = c') : head k q v w b h c = head k' q' v' w' b' h' c' := by
  obtain rfl := funext hk
  obtain rfl := funext hq
  obtain rfl := funext hv
  obtain rfl := funext hw
  obtain rfl := funext hb
  obtain rfl := Fin.ext hh
  obtain rfl := Fin.ext hc
  rfl

/-- The head that column `c` of 128 belongs to. -/
def headOf (c : Fin 128) : Fin 4 := ⟨c.val / 32, by omega⟩

/-- The lane of its head that column `c` of 128 is. -/
def laneOf (c : Fin 128) : Fin 32 := ⟨c.val % 32, by omega⟩

/-- The layer's result as an array of 10000 rows of four heads of 32 lanes. -/
def heads (k q : FVec Ideal S10000x64 .f32) (v : FVec Ideal S10000x128 .f32) (w b : FVec Ideal S1x32 .f32) :
    FVec Ideal S10000x128 .f32 :=
  fun j => head (fun a => k (ix2 (j 0) a)) (fun a => q (ix2 (j 0) a)) (fun c => v (ix2 (j 0) c)) (fun c => w (ix2 0 c))
    (fun c => b (ix2 0 c)) (headOf (j 1)) (laneOf (j 1))

/-- The whole layer, from the node features, the connection matrix, the three weights, the decays, and the weight and
    bias of the normalisation. -/
def layer (x : FVec Ideal S10000x128 .f32) (A : FVec Ideal S10000x10000 .f32) (wk wq : FVec Ideal S64x128 .f32)
    (wv : FVec Ideal S128x128 .f32) (d : FVec Ideal S1x64 .f32) (w b : FVec Ideal S1x32 .f32) :
    FVec Ideal S10000x128 .f32 :=
  heads (total (keys x wk) (hop A (decayed (keys x wk) d)) (hop A (decayed (hop A (decayed (keys x wk) d)) d)))
    (keys x wq) (vals x wv) w b

/-! ## Where the two programs spell one number differently -/

/-- The word `0x41800000` is 16. -/
theorem word16 : Ideal.ofBits .f32 0x41800000#32 = ((16 : ℝ) : EReal) := by
  simp [Ideal.ofBits, Ideal.ieee, -EReal.coe_mul]; norm_num

/-- The word `0x42000000` is 32. -/
theorem word32 : Ideal.ofBits .f32 0x42000000#32 = ((32 : ℝ) : EReal) := by
  simp [Ideal.ofBits, Ideal.ieee, -EReal.coe_mul]; norm_num

/-- The word `0x3D800000` is 1/16. -/
theorem wordInv16 : Ideal.ofBits .f32 0x3D800000#32 = (((16 : ℝ)⁻¹ : ℝ) : EReal) := by
  simp [Ideal.ofBits, Ideal.ieee, -EReal.coe_mul]; norm_num

/-- The word `0x3727C5AC` (1e-5 in f32) is a positive real. -/
theorem wordEps_pos : 0 < Ideal.ofBits .f32 0x3727C5AC#32 := by
  simp [Ideal.ofBits, Ideal.ieee, -EReal.coe_mul]

/-- Dividing by 16 is multiplying by 1/16. -/
theorem div16 (s : EReal) :
    Ideal.div s (Ideal.ofBits .f32 0x41800000#32) = s * Ideal.ofBits .f32 0x3D800000#32 := by
  rw [word16, wordInv16, Ideal.div, if_neg (by norm_num), EReal.coe_inv]

/-- `elu z + 1` with `elu` as a library spells it: `where(z > 0, z, 1 · expm1(where(z > 0, 0, z))) + 1`. -/
theorem elu_add_one (z : EReal) :
    (if 0 < z then z else 1 * (Ideal.exp (if 0 < z then 0 else z) - 1)) + 1 = feat z := by
  unfold feat
  split_ifs with h
  · rfl
  · rw [one_mul]
    induction z with
    | bot => rw [Ideal.exp_bot, zero_sub, ← EReal.coe_one, ← EReal.coe_neg, ← EReal.coe_add, neg_add_cancel, EReal.coe_zero]
    | top => simp at h
    | coe r =>
      rw [Ideal.exp_coe, ← EReal.coe_one, ← EReal.coe_sub, ← EReal.coe_add, sub_add_cancel]

/-- A square of an extended real is not negative. -/
theorem sq_nonneg (x : EReal) : 0 ≤ x * x := by
  induction x with
  | bot => simp
  | top => simp
  | coe r => rw [← EReal.coe_mul]; exact_mod_cast mul_self_nonneg r

/-- A variance is not negative. -/
theorem variance_nonneg (v : Fin 32 → EReal) : 0 ≤ variance v := by
  unfold variance
  rw [word32, Ideal.div, if_neg (by norm_num)]
  refine mul_nonneg (Finset.sum_nonneg fun c _ => sq_nonneg _) ?_
  rw [← EReal.coe_inv]
  exact_mod_cast (by norm_num : (0 : ℝ) ≤ (32 : ℝ)⁻¹)

/-- Dividing by the root of a positive number is multiplying by its reciprocal root. -/
theorem div_sqrt (a y : EReal) (hy : 0 < y) : Ideal.div a (Ideal.sqrt y) = a * Ideal.rsqrt y := by
  induction y with
  | bot => simp at hy
  | top => simp [Ideal.div]
  | coe r =>
    have hr : 0 < r := by exact_mod_cast hy
    have hs : (Real.sqrt r : EReal) ≠ 0 := by exact_mod_cast (Real.sqrt_pos.mpr hr).ne'
    rw [Ideal.sqrt_coe, Ideal.rsqrt_coe, if_neg hr.not_gt, if_neg hr.not_gt, if_neg hr.ne', Ideal.div, if_neg hs,
      EReal.coe_inv]

/-- The layer normalisation with the division by the standard deviation written as a division. -/
theorem normed_eq (v w b : Fin 32 → EReal) (c : Fin 32) :
    Ideal.div (v c - mean v) (Ideal.sqrt (variance v + Ideal.ofBits .f32 0x3727C5AC#32)) * w c + b c = normed v w b c := by
  rw [normed, div_sqrt _ _ (wordEps_pos.trans_le (le_add_of_nonneg_left (variance_nonneg v)))]

end Cert.Spec

end
-- ==== Proof.Projections.lean ====
/-
  The first kernel call, over five blocks of 2000 rows: what each of its four results holds when it has run, as a function
  of the arrays it reads. A block of a result is written once, from the block of node features of the same rows.
-/
module

public import proofs.«01_k».proof.Proof.Gen.KernelIdeal.Frame
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.Projections

open Cert.KernelIdeal Cert.KernelIdeal.Gen Cert.Spec

variable (V : (c : Dev nD) → (b : Ref sig .tc) → Buf (Elt Ideal) ((c : Thread nD τ).loc b))

/-! ## What one block computes -/

/-- The block of keys at an index. -/
theorem keys_at (x : FVec Ideal S2000x128 .f32) (w : FVec Ideal S64x128 .f32) (j : S2000x64.Idx) :
    k0_pay2 (F := Ideal) x w j = feat (∑ i : Fin 128, x (ix2 (j 0) i) * w (ix2 (j 1) i)) := by
  pointwise [k0_pay2, k0_pay1, feat]

/-- The block of queries at an index: the same function of the other weight. -/
theorem queries_at (x : FVec Ideal S2000x128 .f32) (w : FVec Ideal S64x128 .f32) (j : S2000x64.Idx) :
    k0_pay3 (F := Ideal) x w j = feat (∑ i : Fin 128, x (ix2 (j 0) i) * w (ix2 (j 1) i)) := by
  pointwise [k0_pay3, k0_pay1, feat]

/-- The block of values at an index. -/
theorem vals_at (x : FVec Ideal S2000x128 .f32) (w : FVec Ideal S128x128 .f32) (j : S2000x128.Idx) :
    k0_pay4 (F := Ideal) x w j = ∑ i : Fin 128, x (ix2 (j 0) i) * w (ix2 (j 1) i) := by
  pointwise [k0_pay4, k0_pay1]

/-- The block of decayed keys at an index. -/
theorem decayed_at (x : FVec Ideal S2000x128 .f32) (w : FVec Ideal S64x128 .f32) (d : FVec Ideal S1x64 .f32) (j : S2000x64.Idx) :
    k0_pay5 (F := Ideal) x w d j = k0_pay2 (F := Ideal) x w j * d (ix2 0 (j 1)) := by
  pointwise [k0_pay5]

/-! ## Where the blocks lie -/

/-- Point `t` reads and writes rows `2000 t …` of the arrays cut into blocks; the weights and decays are whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] := (by decide +kernel : ∀ t : Fin grid0.N, _)

/-! ## What the arrays hold -/

/-- The first result is the keys. -/
theorem keys_final (c : Dev nD) : (dat0 V c).arrAt 5 cfg0.N = keys (V c main_call0_v0) (V c main_arg2) := by
  refine (dat0 V c).arrAt_eq_of_covers 5 _ (by decide +kernel) fun t hf y => ?_
  blk_simp
  rw [after0_5]; frame_out
  rw [keys_at]
  unfold keys
  blk_point [iblk0, idx t]

/-- The second result is the keys, decayed. -/
theorem decayed_final (c : Dev nD) : (dat0 V c).arrAt 6 cfg0.N
    = decayed (keys (V c main_call0_v0) (V c main_arg2)) (V c main_call0_v1) := by
  refine (dat0 V c).arrAt_eq_of_covers 6 _ (by decide +kernel) fun t hf y => ?_
  blk_simp
  rw [after0_6]; frame_out
  rw [decayed_at, keys_at]
  unfold decayed keys
  blk_point [iblk0, idx t]

/-- The third result is the queries. -/
theorem queries_final (c : Dev nD) : (dat0 V c).arrAt 7 cfg0.N = keys (V c main_call0_v0) (V c main_arg3) := by
  refine (dat0 V c).arrAt_eq_of_covers 7 _ (by decide +kernel) fun t hf y => ?_
  blk_simp
  rw [after0_7]; frame_out
  rw [queries_at]
  unfold keys
  blk_point [iblk0, idx t]

/-- The fourth result is the values. -/
theorem vals_final (c : Dev nD) : (dat0 V c).arrAt 8 cfg0.N = vals (V c main_call0_v0) (V c main_arg4) := by
  refine (dat0 V c).arrAt_eq_of_covers 8 _ (by decide +kernel) fun t hf y => ?_
  blk_simp
  rw [after0_8]; frame_out
  rw [vals_at]
  unfold vals
  blk_point [iblk0, idx t]

end Cert.Projections

end
-- ==== Proof.FirstHop.lean ====
/-
  The second kernel call, over 25 blocks of 400 rows of the connection matrix: its first result is the matrix times the
  decayed keys, its second the same product decayed once more. The two changes of format before the product are the
  identity on the extended reals.
-/
module

public import proofs.«01_k».proof.Proof.Gen.KernelIdeal.Frame
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.FirstHop

open Cert.KernelIdeal Cert.KernelIdeal.Gen Cert.Spec

variable (V : (c : Dev nD) → (b : Ref sig .tc) → Buf (Elt Ideal) ((c : Thread nD τ).loc b))

/-- The block of the product at an index. -/
theorem hop_at (A : FVec Ideal S400x10000 .f32) (p : FVec Ideal S10000x64 .f32) (j : S400x64.Idx) :
    k1_pay1 (F := Ideal) A p j = ∑ i : Fin 10000, A (ix2 (j 0) i) * p (ix2 i (j 1)) := by
  pointwise [k1_pay1]

/-- The block of the decayed product at an index. -/
theorem decayed_at (A : FVec Ideal S400x10000 .f32) (p : FVec Ideal S10000x64 .f32) (d : FVec Ideal S1x64 .f32)
    (j : S400x64.Idx) : k1_pay2 (F := Ideal) A p d j = k1_pay1 (F := Ideal) A p j * d (ix2 0 (j 1)) := by
  pointwise [k1_pay2]

/-- Point `t` reads rows `400 t …` of the matrix and writes the same rows of the results; the keys and decays are whole. -/
theorem idx : ∀ t : Fin cfg1.N, win1_0.index t = ![t.val, 0] ∧ win1_1.index t = ![0, 0] ∧ win1_2.index t = ![0, 0]
    ∧ win1_3.index t = ![t.val, 0] ∧ win1_4.index t = ![t.val, 0] := (by decide +kernel : ∀ t : Fin grid1.N, _)

/-- The first result is the matrix times the decayed keys. -/
theorem hop_final (c : Dev nD) : (dat1 V c).arrAt 3 cfg1.N = hop (V c main_arg1) (V c main_call0_v2_1) := by
  refine (dat1 V c).arrAt_eq_of_covers 3 _ (by decide +kernel) fun t hf y => ?_
  blk_simp
  rw [after1_3]; frame_out
  rw [hop_at]
  unfold hop
  blk_point [iblk1, idx t]

/-- The second result is the first, decayed. -/
theorem decayed_final (c : Dev nD) : (dat1 V c).arrAt 4 cfg1.N
    = decayed (hop (V c main_arg1) (V c main_call0_v2_1)) (V c main_call0_v1) := by
  refine (dat1 V c).arrAt_eq_of_covers 4 _ (by decide +kernel) fun t hf y => ?_
  blk_simp
  rw [after1_4]; frame_out
  rw [decayed_at, hop_at]
  unfold decayed hop
  blk_point [iblk1, idx t]

end Cert.FirstHop

end
-- ==== Proof.Epilogue.lean ====
/-
  The third kernel call, over 25 blocks of 400 rows: it multiplies the connection matrix into the decayed first product,
  adds the three terms of the keys, and writes the four heads of the result, 32 columns each, by four stores. Each store's
  values are one function, `head`, of the rows of the block at that head, so the block, and then the array, is `heads`.
-/
module

public import proofs.«01_k».proof.Proof.Gen.KernelIdeal.Frame
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.Epilogue

open Cert.KernelIdeal Cert.KernelIdeal.Gen Cert.Spec

variable (V : (c : Dev nD) → (b : Ref sig .tc) → Buf (Elt Ideal) ((c : Thread nD τ).loc b))

/-! ## What one block computes -/

/-- `head` of row `r` of a block of 400 rows. -/
abbrev rowHead (k q : FVec Ideal S400x64 .f32) (v : FVec Ideal S400x128 .f32) (w b : FVec Ideal S1x32 .f32) (r : Fin 400)
    (h : Fin 4) (c : Fin 32) : EReal :=
  head (fun a => k (ix2 r a)) (fun a => q (ix2 r a)) (fun c => v (ix2 r c)) (fun c => w (ix2 0 c)) (fun c => b (ix2 0 c)) h c

/-- The propagated keys of the block. -/
theorem total_at (A : FVec Ideal S400x10000 .f32) (p : FVec Ideal S10000x64 .f32) (k p1 : FVec Ideal S400x64 .f32)
    (j : S400x64.Idx) : k2_pay2 (F := Ideal) A p k p1 j = k j + p1 j + ∑ i : Fin 10000, A (ix2 (j 0) i) * p (ix2 i (j 1)) := by
  pointwise [k2_pay2]

/-- The origin of a rectangle that is its whole buffer. -/
theorem origin : (![0, 0] : Fin 2 → Nat) = fun _ => 0 := by funext a; fin_cases a <;> rfl

/-- The queries, values, weight and bias of the block are used as they are read. -/
theorem q_whole (q : FVec Ideal S400x64 .f32) : k2_pay3 (F := Ideal) q = q := by funext j; pointwise [k2_pay3]
@[inherit_doc q_whole]
theorem v_whole (v : FVec Ideal S400x128 .f32) : k2_pay4 (F := Ideal) v = v := by funext j; pointwise [k2_pay4]
@[inherit_doc q_whole]
theorem w_whole (w : FVec Ideal S1x32 .f32) : k2_pay5 (F := Ideal) w = w := by funext j; pointwise [k2_pay5]
@[inherit_doc q_whole]
theorem b_whole (b : FVec Ideal S1x32 .f32) : k2_pay6 (F := Ideal) b = b := by funext j; pointwise [k2_pay6]

/-- What the first store writes is head 0. -/
theorem tile0 (A : FVec Ideal S400x10000 .f32) (p : FVec Ideal S10000x64 .f32) (k p1 q : FVec Ideal S400x64 .f32)
    (v : FVec Ideal S400x128 .f32) (w b : FVec Ideal S1x32 .f32) (y : S400x32.Idx) :
    k2_pay10 (F := Ideal) w b (k2_pay7 A p k p1 q v) (k2_pay8 A p k p1 q v) (k2_pay9 A p k p1 q v) y
      = rowHead (k2_pay2 (F := Ideal) A p k p1) q v w b (y 0) 0 (y 1) := by
  pointwise [k2_pay10, k2_pay9, k2_pay8, k2_pay7, k2_pay4, k2_pay3, head, normed, variance, mean, gated, col16, col32]

/-- What the second store writes is head 1. -/
theorem tile1 (k q : FVec Ideal S400x64 .f32) (v : FVec Ideal S400x128 .f32) (w b : FVec Ideal S1x32 .f32) (y : S400x32.Idx) :
    k2_pay11 (F := Ideal) k q v w b y = rowHead k q v w b (y 0) 1 (y 1) := by
  pointwise [k2_pay11, head, normed, variance, mean, gated, col16, col32]

/-- What the third store writes is head 2. -/
theorem tile2 (k q : FVec Ideal S400x64 .f32) (v : FVec Ideal S400x128 .f32) (w b : FVec Ideal S1x32 .f32) (y : S400x32.Idx) :
    k2_pay12 (F := Ideal) k q v w b y = rowHead k q v w b (y 0) 2 (y 1) := by
  pointwise [k2_pay12, head, normed, variance, mean, gated, col16, col32]

/-- What the fourth store writes is head 3. -/
theorem tile3 (k q : FVec Ideal S400x64 .f32) (v : FVec Ideal S400x128 .f32) (w b : FVec Ideal S1x32 .f32) (y : S400x32.Idx) :
    k2_pay1 (F := Ideal) w b (k2_pay13 (F := Ideal) k q v) y = rowHead k q v w b (y 0) 3 (y 1) := by
  pointwise [k2_pay1, k2_pay13, head, normed, variance, mean, gated, col16, col32]

/-- Point `t` reads and writes rows `400 t …` of the arrays cut into blocks; the others are whole. -/
theorem idx : ∀ t : Fin cfg2.N, win2_0.index t = ![t.val, 0] ∧ win2_1.index t = ![0, 0] ∧ win2_2.index t = ![t.val, 0]
    ∧ win2_3.index t = ![t.val, 0] ∧ win2_4.index t = ![t.val, 0] ∧ win2_5.index t = ![t.val, 0] ∧ win2_6.index t = ![0, 0]
    ∧ win2_7.index t = ![0, 0] ∧ win2_8.index t = ![t.val, 0] := (by decide +kernel : ∀ t : Fin grid2.N, _)

/-- The block that one point leaves, at an index: `head` of the column's head and lane. -/
theorem block_at (x0 : FVec Ideal S400x10000 .f32) (x1 : FVec Ideal S10000x64 .f32) (x2 x3 x4 : FVec Ideal S400x64 .f32)
    (x5 : FVec Ideal S400x128 .f32) (x6 x7 : FVec Ideal S1x32 .f32) (y : S400x128.Idx) :
    out2_8 (F := Ideal) x0 x1 x2 x3 x4 x5 x6 x7 y
      = rowHead (k2_pay2 (F := Ideal) x0 x1 x3 x2) x4 x5 x6 x7 (y 0) (headOf (y 1)) (laneOf (y 1)) := by
  have row (x : S400x32.Idx) (h : Fin 4) (hx : (y 0 : ℕ) = x 0) (h1 : (y 1 : ℕ) = 32 * h.val + x 1) :
      rowHead (k2_pay2 (F := Ideal) x0 x1 x3 x2) x4 x5 x6 x7 (x 0) h (x 1)
        = rowHead (k2_pay2 (F := Ideal) x0 x1 x3 x2) x4 x5 x6 x7 (y 0) (headOf (y 1)) (laneOf (y 1)) := by
    have e : x 0 = y 0 := Fin.ext hx.symm
    have l : (x 1 : ℕ) < 32 := (x 1).isLt
    rw [e]
    refine head_congr (fun _ => rfl) (fun _ => rfl) (fun _ => rfl) (fun _ => rfl) (fun _ => rfl) ?_ ?_
    · show h.val = (y 1 : ℕ) / 32
      omega
    · show (x 1 : ℕ) = (y 1 : ℕ) % 32
      omega
  have e0 : View.ld (Val := Elt Ideal) (e' := .f32) x0 r2_0 = x0 := View.ld_unit_zero origin _ _
  have e1 : View.ld (Val := Elt Ideal) (e' := .f32) x1 r2_1 = x1 := View.ld_unit_zero origin _ _
  have e2 : View.ld (Val := Elt Ideal) (e' := .f32) x2 r2_2 = x2 := View.ld_unit_zero origin _ _
  have e3 : View.ld (Val := Elt Ideal) (e' := .f32) x3 r2_2 = x3 := View.ld_unit_zero origin _ _
  have e4 : View.ld (Val := Elt Ideal) (e' := .f32) x4 r2_2 = x4 := View.ld_unit_zero origin _ _
  have e5 : View.ld (Val := Elt Ideal) (e' := .f32) x5 r2_3 = x5 := View.ld_unit_zero origin _ _
  have e6 : View.ld (Val := Elt Ideal) (e' := .f32) x6 r2_4 = x6 := View.ld_unit_zero origin _ _
  have e7 : View.ld (Val := Elt Ideal) (e' := .f32) x7 r2_4 = x7 := View.ld_unit_zero origin _ _
  unfold_out out2_8
  canon_tiles x h
  all_goals simp only [e0, e1, e2, e3, e4, e5, e6, e7, q_whole, v_whole, w_whole, b_whole]
  · exact (tile3 _ _ _ _ _ x).trans (row x 3 h0 h1)
  · exact (tile2 _ _ _ _ _ x).trans (row x 2 h0 h1)
  · exact (tile1 _ _ _ _ _ x).trans (row x 1 h0 h1)
  · exact (tile0 _ _ _ _ _ _ _ _ x).trans (row x 0 h0 (by rw [h1]; simp))

/-! ## What the array holds -/

/-- The result is `heads` of the propagated keys, the queries and the values. -/
theorem final (c : Dev nD) : (dat2 V c).arrAt 8 cfg2.N
    = heads (total (V c main_call0_v2_0) (V c main_call0_v3_0) (hop (V c main_arg1) (V c main_call0_v3_1)))
        (V c main_call0_v2_2) (V c main_call0_v2_3) (V c main_call0_v4) (V c main_call0_v5) := by
  refine (dat2 V c).arrAt_eq_of_covers 8 _ (by decide +kernel) fun t hf y => ?_
  blk_simp
  rw [after2_8, block_at]
  unfold heads
  refine head_congr (fun a => ?_) (fun a => ?_) (fun a => ?_) (fun a => ?_) (fun a => ?_) ?_ ?_
  · rw [total_at]
    unfold total hop
    blk_point [iblk2, idx t]
  · blk_point [iblk2, idx t]
  · blk_point [iblk2, idx t]
  · blk_point [iblk2, idx t]
  · blk_point [iblk2, idx t]
  · unfold headOf
    blk_simp [idx t]
  · unfold laneOf
    blk_simp [idx t]

end Cert.Epilogue

end
-- ==== Proof.KernelRun.lean ====
/-
  The kernel's whole run: the three calls and the reshapes between them. After every weakly fair run the first result is
  the last of the arrays the calls hand on, and the arguments are unchanged; and that array, read back through the calls,
  is the layer of `Spec` at the arguments.
-/
module

public import proofs.«01_k».proof.Proof.Projections
public import proofs.«01_k».proof.Proof.FirstHop
public import proofs.«01_k».proof.Proof.Epilogue
public import Idealize.ShloMosaic.Lib.Tactic.CleanTypes
public import Idealize.ShloMosaic.Lib.StableHlo.ReadAt

@[expose] public section

set_option maxRecDepth 16384

noncomputable section

open Idealize.ShloMosaic Idealize.ShloMosaic.TcCoe Idealize.SL Idealize.SL.Sem
open Idealize.ShloMosaic.Pipeline (Dat)

namespace Cert.KernelRun

open Cert.KernelIdeal Cert.KernelIdeal.Gen Cert.Spec

variable (m : (ℓ : Loc nD τ sig) → Buf (Elt Ideal) ℓ) (ρ : Dev nD → PrngReg)

/-! ## What the first call reads -/

/-- The decays, a row of 64 columns. -/
def decays : FVec Ideal S1x64 .f32 := fun j => Ideal.ofBits .f32 (lit0 (j 1))

/-- The node features as the first call reads them: the argument without its leading axis of length one. -/
abbrev feats (c : Dev nD) : FVec Ideal S10000x128 .f32 :=
  shapeCast S10000x128 (m ((c : Thread nD τ).loc main_arg0) : FVec Ideal S1x10000x128 .f32) shapeCasts_S1x10000x128_S10000x128

/-- A vector of 32 numbers as a row. -/
abbrev row32 (w : FVec Ideal S32 .f32) : FVec Ideal S1x32 .f32 := shapeCast S1x32 w shapeCasts_S32_S1x32

theorem V1_feats (c : Dev nD) : V1 m ρ c main_call0_v0 = feats m c := by
  show StableHlo.after hostOps0 _ _ = _
  after_results_simp
  rfl

theorem V1_decays (c : Dev nD) : V1 m ρ c main_call0_v1 = decays := by
  show StableHlo.after hostOps0 _ _ = _
  after_results_simp
  funext j
  pointwise [decays]
  show Ideal.ofBits .f32 (lit0 (S64.rowMajor (ix1 (j 1)))) = _
  refine congrArg (fun i => Ideal.ofBits .f32 (lit0 i)) (Fin.ext ?_)
  exact Shape.rowMajor_val_one _

/-! ## After the first call -/

/-- The keys of the whole graph. -/
abbrev keyArr (c : Dev nD) : FVec Ideal S10000x64 .f32 := keys (feats m c) (m ((c : Thread nD τ).loc main_arg2))

theorem V2_keys (c : Dev nD) : V2 m ρ c main_call0_v2_0 = keyArr m c := by
  refine (W2_arr m ρ c 5).trans ((Projections.keys_final (V1 m ρ) c).trans ?_)
  rw [V1_feats]
  exact congrArg (keys _) (W1_args m ρ c main_arg2 (by decide))

theorem V2_decayed (c : Dev nD) : V2 m ρ c main_call0_v2_1 = decayed (keyArr m c) decays := by
  refine (W2_arr m ρ c 6).trans ((Projections.decayed_final (V1 m ρ) c).trans ?_)
  rw [V1_feats, V1_decays]
  exact congrArg (fun w => decayed (keys _ w) _) (W1_args m ρ c main_arg2 (by decide))

theorem V2_queries (c : Dev nD) : V2 m ρ c main_call0_v2_2 = keys (feats m c) (m ((c : Thread nD τ).loc main_arg3)) := by
  refine (W2_arr m ρ c 7).trans ((Projections.queries_final (V1 m ρ) c).trans ?_)
  rw [V1_feats]
  exact congrArg (keys _) (W1_args m ρ c main_arg3 (by decide))

theorem V2_vals (c : Dev nD) : V2 m ρ c main_call0_v2_3 = vals (feats m c) (m ((c : Thread nD τ).loc main_arg4)) := by
  refine (W2_arr m ρ c 8).trans ((Projections.vals_final (V1 m ρ) c).trans ?_)
  rw [V1_feats]
  exact congrArg (vals _) (W1_args m ρ c main_arg4 (by decide))

theorem V2_decays (c : Dev nD) : V2 m ρ c main_call0_v1 = decays :=
  (W2_of m ρ c main_call0_v1 (by decide)).trans (V1_decays m ρ c)

/-! ## After the second call -/

/-- The keys after one step. -/
abbrev hopArr (c : Dev nD) : FVec Ideal S10000x64 .f32 :=
  hop (m ((c : Thread nD τ).loc main_arg1)) (decayed (keyArr m c) decays)

theorem V3_hop (c : Dev nD) : V3 m ρ c main_call0_v3_0 = hopArr m c := by
  refine (W3_arr m ρ c 3).trans ((FirstHop.hop_final (V2 m ρ) c).trans ?_)
  rw [V2_decayed]
  exact congrArg (fun A => hop A _) (W2_args m ρ c main_arg1 (by decide))

theorem V3_decayed (c : Dev nD) : V3 m ρ c main_call0_v3_1 = decayed (hopArr m c) decays := by
  refine (W3_arr m ρ c 4).trans ((FirstHop.decayed_final (V2 m ρ) c).trans ?_)
  rw [V2_decayed, V2_decays]
  exact congrArg (fun A => decayed (hop A _) _) (W2_args m ρ c main_arg1 (by decide))

/-! ## What the third call reads, and leaves -/

/-- An array that neither the second call nor the reshapes after it write is as the first call left it. -/
theorem V4_of_V2 (c : Dev nD) (r : Ref sig .tc) (h : r ∉ hostOps2_W)
    (h' : ∀ w : Fin cfg1.W, Pipeline.arrRef spec1 w = r → (cfg1.win w).isOut = false) : V4 m ρ c r = V2 m ρ c r :=
  (W4_of m ρ c r h).trans (W3_of m ρ c r h')

theorem V4_weight (c : Dev nD) : V4 m ρ c main_call0_v4 = row32 (m ((c : Thread nD τ).loc main_arg5)) := by
  show StableHlo.after hostOps2 _ _ = _
  after_results_simp
  exact congrArg row32 (W3_args m ρ c main_arg5 (by decide))

theorem V4_bias (c : Dev nD) : V4 m ρ c main_call0_v5 = row32 (m ((c : Thread nD τ).loc main_arg6)) := by
  show StableHlo.after hostOps2 _ _ = _
  after_results_simp
  exact congrArg row32 (W3_args m ρ c main_arg6 (by decide))

/-- The layer at the arguments, as 10000 rows of 128 columns. -/
def layerArr (c : Dev nD) : FVec Ideal S10000x128 .f32 :=
  layer (feats m c) (m ((c : Thread nD τ).loc main_arg1)) (m ((c : Thread nD τ).loc main_arg2))
    (m ((c : Thread nD τ).loc main_arg3)) (m ((c : Thread nD τ).loc main_arg4)) decays
    (row32 (m ((c : Thread nD τ).loc main_arg5))) (row32 (m ((c : Thread nD τ).loc main_arg6)))

theorem W5_layer (c : Dev nD) : W5 m ρ c (Proc.devRef .tc main_call0_v6) = layerArr m c := by
  refine (W5_arr m ρ c 8).trans ((Epilogue.final (V4 m ρ) c).trans ?_)
  rw [V4_weight, V4_bias, V4_of_V2 m ρ c main_call0_v2_0 (by decide) (by decide),
    V4_of_V2 m ρ c main_call0_v2_2 (by decide) (by decide), V4_of_V2 m ρ c main_call0_v2_3 (by decide) (by decide),
    V2_keys, V2_queries, V2_vals,
    show V4 m ρ c main_call0_v3_0 = hopArr m c from (W4_of m ρ c main_call0_v3_0 (by decide)).trans (V3_hop m ρ c),
    show V4 m ρ c main_call0_v3_1 = decayed (hopArr m c) decays from
      (W4_of m ρ c main_call0_v3_1 (by decide)).trans (V3_decayed m ρ c),
    show V4 m ρ c main_arg1 = m ((c : Thread nD τ).loc main_arg1) from W4_args m ρ c main_arg1 (by decide)]
  rfl

/-- The first result: the layer with a leading axis of length one. -/
def result (c : Dev nD) : FVec Ideal S1x10000x128 .f32 :=
  shapeCast S1x10000x128 (layerArr m c) shapeCasts_S10000x128_S1x10000x128

theorem W6_result (c : Dev nD) : W6 m ρ c (Proc.devRef .tc main_v0) = result m c := by
  show StableHlo.after hostOps3 _ _ = _
  after_results_simp
  exact congrArg (fun x => shapeCast S1x10000x128 x shapeCasts_S10000x128_S1x10000x128) (W5_layer m ρ c)

end Cert.KernelRun

end
-- ==== Proof.Launch.lean ====
/-
  The kernel's launch, with its results: every weakly fair run of the three calls ends with the first result at
  `KernelRun.result`, the second at the connection matrix, and every argument as launched.
-/
module

public import proofs.«01_k».proof.Proof.KernelRun

@[expose] public section

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters, every weakly fair execution of the kernel terminates with its two results at
    `result` and at the connection matrix, the arguments unchanged. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v0 (by decide))).trans (W6_result m ρ c),
       (h c _ (mem_uc main_arg1 (by decide))).trans (W6_main_arg1 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelRun

end
-- ==== Proof.RefTerm.lean ====
/-
  What the reference computes, as its own operations over whole arrays, named step by step: the feature map, the two
  steps through the connection matrix, the gated values, and the normalisation. The last theorem says that the one
  composed term the reference's run ends at is these steps in a row.
-/
module

public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe

namespace Cert.RefTerm

open Cert.ReferenceIdeal Cert.ReferenceIdeal.Gen

/-- The same number at every place of a 1×10000×64 array. -/
def fill64 (w : BitVec 32) : FVec Ideal S1x10000x64 .f32 :=
  broadcastInDim S1x10000x64 ![] bcast_S_S1x10000x64 (constant S_ .f32 w)

/-- The same number for every head of every node. -/
def fillHeads (w : BitVec 32) : FVec Ideal S1x10000x4x1 .f32 :=
  broadcastInDim S1x10000x4x1 ![] bcast_S_S1x10000x4x1 (constant S_ .f32 w)

/-- `elu z + 1`, elementwise. -/
def eluAddOne (z : FVec Ideal S1x10000x64 .f32) : FVec Ideal S1x10000x64 .f32 :=
  addf (select (cmpf .ogt z (fill64 0x00000000#32)) z
    (mulf (fill64 0x3F800000#32)
      (Host.expm1 (select (cmpf .ogt z (fill64 0x00000000#32))
        (broadcastInDim S1x10000x64 ![] bcast_S_S1x10000x64 (id (constant S_ .f32 0x00000000#32))) z))))
    (fill64 0x3F800000#32)

/-- Keys or queries: the feature map of `x · wᵀ`. -/
def feature (x : FVec Ideal S1x10000x128 .f32) (w : FVec Ideal S64x128 .f32) : FVec Ideal S1x10000x64 .f32 :=
  eluAddOne (Host.dotGeneral dot_S1x10000x128_S128x64_S1x10000x64_2_0_01_1_n_n none x
    (transpose S128x64 [1, 0] w transposes_S64x128_S128x64_1_0))

/-- The values: `x · wᵀ`. -/
def value (x : FVec Ideal S1x10000x128 .f32) (w : FVec Ideal S128x128 .f32) : FVec Ideal S1x10000x128 .f32 :=
  Host.dotGeneral dot_S1x10000x128_S128x128_S1x10000x128_2_0_01_1_n_n none x
    (transpose S128x128 [1, 0] w transposes_S128x128_S128x128_1_0)

/-- The four decays, one for each head, over all nodes and lanes. -/
def decay : FVec Ideal S10000x1x4x16 .f32 :=
  broadcastInDim S10000x1x4x16 ![0, 1, 2, 3] bcast_S1x1x4x1_S10000x1x4x16_0_1_2_3
    (broadcastInDim S1x1x4x1 ![2] bcast_S4_S1x1x4x1_2
      (fun i => FloatOps.ofBits (F := Ideal) .f32 (lit0 (S4.rowMajor i)) : FVec Ideal S4 .f32))

/-- The keys with the nodes first, split into heads. -/
def split (k : FVec Ideal S1x10000x64 .f32) : FVec Ideal S10000x1x4x16 .f32 :=
  transpose S10000x1x4x16 [1, 0, 2, 3] (shapeCast S1x10000x4x16 k shapeCasts_S1x10000x64_S1x10000x4x16)
    transposes_S1x10000x4x16_S10000x1x4x16_1_0_2_3

/-- One step: the decay, then the connection matrix. -/
def step (A : FVec Ideal S10000x10000 .f32) (p : FVec Ideal S10000x1x4x16 .f32) : FVec Ideal S10000x1x4x16 .f32 :=
  shapeCast S10000x1x4x16 (Host.dotGeneral dot_S10000x10000_S10000x64_S10000x64_1_0_0_1_n_n none A
    (shapeCast S10000x64 (mulf p decay) shapeCasts_S10000x1x4x16_S10000x64)) shapeCasts_S10000x64_S10000x1x4x16

/-- The keys and the two propagated keys, added up. -/
def propagated (A : FVec Ideal S10000x10000 .f32) (k : FVec Ideal S10000x1x4x16 .f32) : FVec Ideal S10000x1x4x16 .f32 :=
  addf (addf k (step A k)) (step A (step A k))

/-- The gate of every head: the mean over its 16 lanes of key times query. -/
def gate (k : FVec Ideal S10000x1x4x16 .f32) (q : FVec Ideal S1x10000x64 .f32) : FVec Ideal S1x10000x4x1 .f32 :=
  Host.divf (broadcastInDim S1x10000x4x1 ![0, 1, 2] bcast_S1x10000x4_S1x10000x4x1_0_1_2
    (Host.reduceAdd (mulf (transpose S1x10000x4x16 [1, 0, 2, 3] k transposes_S10000x1x4x16_S1x10000x4x16_1_0_2_3)
      (shapeCast S1x10000x4x16 q shapeCasts_S1x10000x64_S1x10000x4x16))
      (constant S_ .f32 0x00000000#32) reducesTo_S1x10000x4x16_S1x10000x4_d3 h_S_)) (fillHeads 0x41800000#32)

/-- One number for each head, over the head's 32 lanes. -/
def spread (g : FVec Ideal S1x10000x4x1 .f32) : FVec Ideal S1x10000x4x32 .f32 :=
  broadcastInDim S1x10000x4x32 ![0, 1, 2, 3] bcast_S1x10000x4x1_S1x10000x4x32_0_1_2_3 g

/-- The values times their head's gate. -/
def gatedValues (v : FVec Ideal S1x10000x128 .f32) (g : FVec Ideal S1x10000x4x1 .f32) : FVec Ideal S1x10000x4x32 .f32 :=
  mulf (shapeCast S1x10000x4x32 v shapeCasts_S1x10000x128_S1x10000x4x32) (spread g)

/-- The sum of the 32 lanes of every head. -/
def laneSum (v : FVec Ideal S1x10000x4x32 .f32) : FVec Ideal S1x10000x4x1 .f32 :=
  broadcastInDim S1x10000x4x1 ![0, 1, 2] bcast_S1x10000x4_S1x10000x4x1_0_1_2
    (Host.reduceAdd v (constant S_ .f32 0x00000000#32) reducesTo_S1x10000x4x32_S1x10000x4_d3 h_S_)

/-- The mean of the 32 lanes of every head. -/
def laneMean (v : FVec Ideal S1x10000x4x32 .f32) : FVec Ideal S1x10000x4x1 .f32 :=
  Host.divf (laneSum v) (fillHeads 0x42000000#32)

/-- Every lane minus its head's mean. -/
def centred (v : FVec Ideal S1x10000x4x32 .f32) : FVec Ideal S1x10000x4x32 .f32 := subf v (spread (laneMean v))

/-- The number of lanes less the correction of zero. -/
def lanes : FVec Ideal S_ .f32 := subf (constant S_ .f32 0x42000000#32) (sitofp .f32 (constantI S_ 32 0#32))

/-- The variance of the 32 lanes of every head: the mean of the squares, where the number of lanes is positive. -/
def laneVar (v : FVec Ideal S1x10000x4x32 .f32) : FVec Ideal S1x10000x4x1 .f32 :=
  select (broadcastInDim S1x10000x4x1 ![] bcast_S_S1x10000x4x1 (cmpf .ogt lanes (constant S_ .f32 0x00000000#32)))
    (Host.divf (laneSum (mulf (centred v) (centred v))) (broadcastInDim S1x10000x4x1 ![] bcast_S_S1x10000x4x1 lanes))
    (broadcastInDim S1x10000x4x1 ![] bcast_S_S1x10000x4x1 (id (constant S_ .f32 0x7FC00000#32)))

/-- A weight or bias of 32 lanes, for every head of every node. -/
def perLane (w : FVec Ideal S32 .f32) : FVec Ideal S1x10000x4x32 .f32 :=
  broadcastInDim S1x10000x4x32 ![0, 1, 2, 3] bcast_S1x1x1x32_S1x10000x4x32_0_1_2_3
    (broadcastInDim S1x1x1x32 ![3] bcast_S32_S1x1x1x32_3 w)

/-- The normalisation of every head. -/
def normalised (v : FVec Ideal S1x10000x4x32 .f32) (w b : FVec Ideal S32 .f32) : FVec Ideal S1x10000x4x32 .f32 :=
  addf (mulf (Host.divf (centred v) (spread (Host.sqrt (addf (laneVar v) (fillHeads 0x3727C5AC#32))))) (perLane w))
    (perLane b)

/-- The heads side by side again, 128 columns for each node. -/
def joined (v : FVec Ideal S1x10000x4x32 .f32) : FVec Ideal S1x10000x128 .f32 :=
  transpose S1x10000x128 [1, 0, 2] (shapeCast S10000x1x128 v shapeCasts_S1x10000x4x32_S10000x1x128)
    transposes_S10000x1x128_S1x10000x128_1_0_2

/-- The reference's first result, from its arguments. -/
def output (x : FVec Ideal S1x10000x128 .f32) (A : FVec Ideal S10000x10000 .f32) (wk wq : FVec Ideal S64x128 .f32)
    (wv : FVec Ideal S128x128 .f32) (w b : FVec Ideal S32 .f32) : FVec Ideal S1x10000x128 .f32 :=
  joined (normalised (gatedValues (value x wv) (gate (propagated A (split (feature x wk))) (feature x wq))) w b)

variable (m : (ℓ : Loc nD τ sig) → Buf (Elt Ideal) ℓ)

/-- What the reference's run ends at is `output` of the arguments. -/
theorem result_eq (c : Dev nD) : Cert.ReferenceIdeal.Value.res_out0 m c
    = output (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  unfold Cert.ReferenceIdeal.Value.res_out0 Cert.ReferenceIdeal.Value.res_main_v56
  rfl

end Cert.RefTerm

end
-- ==== Proof.RefValue.lean ====
/-
  The reference's steps read at one index: each is the corresponding piece of `Spec`, and the whole is the layer that the
  kernel's run ends at.
-/
module

public import proofs.«01_k».proof.Proof.RefTerm
public import proofs.«01_k».proof.Proof.KernelRun

@[expose] public section

set_option maxRecDepth 16384

noncomputable section

open Idealize.ShloMosaic Idealize.ShloMosaic.TcCoe

namespace Cert.RefValue

open Cert.ReferenceIdeal Cert.ReferenceIdeal.Gen Cert.RefTerm Cert.Spec
open Cert.KernelRun (decays row32)

/-- Column `16 h + a` of 64, the factors the other way round. -/
theorem col16_eq (h : Fin 4) (a : Fin 16) (hp : h.val * 16 + a.val < 64) : (⟨h.val * 16 + a.val, hp⟩ : Fin 64) = col16 h a :=
  Fin.ext (congrArg (· + a.val) (Nat.mul_comm _ _))

/-- Column `32 h + c` of 128, the factors the other way round. -/
theorem col32_eq (h : Fin 4) (c : Fin 32) (hp : h.val * 32 + c.val < 128) :
    (⟨h.val * 32 + c.val, hp⟩ : Fin 128) = col32 h c :=
  Fin.ext (congrArg (· + c.val) (Nat.mul_comm _ _))

/-- The feature map, at one place. -/
theorem eluAddOne_at (z : FVec Ideal S1x10000x64 .f32) (j) : eluAddOne z j = feat (z j) := by
  rw [← elu_add_one]
  pointwise [eluAddOne, fill64]
  rw [show (id (constant S_ .f32 0#32) : FVec Ideal S_ .f32) ix0 = 0 from by pointwise [id]]

/-- Keys and queries, at node `r` and column `c`. -/
theorem feature_at (x : FVec Ideal S1x10000x128 .f32) (w : FVec Ideal S64x128 .f32) (r : Fin 10000) (c : Fin 64) :
    feature x w (ix3 0 r c) = feat (∑ i : Fin 128, x (ix3 0 r i) * w (ix2 c i)) := by
  rw [feature, eluAddOne_at]
  pointwise

/-- The values, at node `r` and column `c`. -/
theorem value_at (x : FVec Ideal S1x10000x128 .f32) (w : FVec Ideal S128x128 .f32) (r : Fin 10000) (c : Fin 128) :
    value x w (ix3 0 r c) = ∑ i : Fin 128, x (ix3 0 r i) * w (ix2 c i) := by
  pointwise [value]

/-- The kernel's 64 decays are the reference's four, each for the 16 lanes of its head. -/
theorem decay_words : ∀ (h : Fin 4) (a : Fin 16), lit0 h = Cert.KernelIdeal.lit0 (col16 h a) := by decide +kernel

/-- The decay of head `h`, at any node and lane. -/
theorem decay_at (r : Fin 10000) (h : Fin 4) (a : Fin 16) : decay (ix4 r 0 h a) = decays (ix2 0 (col16 h a)) := by
  pointwise [decay, Cert.KernelRun.decays]
  rw [← decay_words h a]
  exact congrArg (fun i => Ideal.ofBits .f32 (lit0 i)) (Fin.ext (Shape.rowMajor_val_one _))

/-- The split into heads, at node `r`, head `h` and lane `a`. -/
theorem split_at (k : FVec Ideal S1x10000x64 .f32) (r : Fin 10000) (h : Fin 4) (a : Fin 16) :
    split k (ix4 r 0 h a) = k (ix3 0 r (col16 h a)) := by
  pointwise [split]
  rw [col16_eq]

/-- One step through the connection matrix, at node `r`, head `h` and lane `a`. -/
theorem step_at (A : FVec Ideal S10000x10000 .f32) (p : FVec Ideal S10000x1x4x16 .f32) (r : Fin 10000) (h : Fin 4)
    (a : Fin 16) :
    step A p (ix4 r 0 h a) = ∑ i : Fin 10000, A (ix2 r i) * (p (ix4 i 0 h a) * decays (ix2 0 (col16 h a))) := by
  pointwise [step]
  simp only [decay_at]

/-- The gate of head `h` of node `r`. -/
theorem gate_at (k : FVec Ideal S10000x1x4x16 .f32) (q : FVec Ideal S1x10000x64 .f32) (r : Fin 10000) (h : Fin 4) :
    gate k q (ix4 0 r h 0)
      = (∑ a : Fin 16, k (ix4 r 0 h a) * q (ix3 0 r (col16 h a))) * Ideal.ofBits .f32 0x3D800000#32 := by
  rw [← div16]
  pointwise [gate, fillHeads]
  simp only [col16_eq]

/-- One number for each head, over its lanes. -/
theorem spread_at (g : FVec Ideal S1x10000x4x1 .f32) (r : Fin 10000) (h : Fin 4) (c : Fin 32) :
    spread g (ix4 0 r h c) = g (ix4 0 r h 0) := by
  pointwise [spread]

/-- The gated values, at node `r`, head `h` and lane `c`. -/
theorem gatedValues_at (v : FVec Ideal S1x10000x128 .f32) (g : FVec Ideal S1x10000x4x1 .f32) (r : Fin 10000) (h : Fin 4)
    (c : Fin 32) : gatedValues v g (ix4 0 r h c) = v (ix3 0 r (col32 h c)) * g (ix4 0 r h 0) := by
  pointwise [gatedValues, spread]
  rw [col32_eq]

/-- The sum of a head's lanes. -/
theorem laneSum_at (v : FVec Ideal S1x10000x4x32 .f32) (r : Fin 10000) (h : Fin 4) :
    laneSum v (ix4 0 r h 0) = ∑ c : Fin 32, v (ix4 0 r h c) := by
  pointwise [laneSum]

/-- The number of lanes is 32. -/
theorem lanes_at (j) : lanes j = Ideal.ofBits .f32 0x42000000#32 := by
  pointwise [lanes]
  rw [show FloatOps.sitofp (F := Ideal) .f32 (0#32 : BitVec 32) = (0 : EReal) from by simp [FloatOps.sitofp], sub_zero]

/-- A head's mean. -/
theorem laneMean_at (v : FVec Ideal S1x10000x4x32 .f32) (r : Fin 10000) (h : Fin 4) :
    laneMean v (ix4 0 r h 0) = mean fun c => v (ix4 0 r h c) := by
  rw [mean, ← laneSum_at]
  pointwise [laneMean, fillHeads]

/-- A lane minus its head's mean. -/
theorem centred_at (v : FVec Ideal S1x10000x4x32 .f32) (r : Fin 10000) (h : Fin 4) (c : Fin 32) :
    centred v (ix4 0 r h c) = v (ix4 0 r h c) - mean fun c => v (ix4 0 r h c) := by
  rw [← laneMean_at, ← spread_at (laneMean v) r h c]
  pointwise [centred]

/-- A head's variance: the number of lanes is positive, so the guard takes the mean of the squares. -/
theorem laneVar_at (v : FVec Ideal S1x10000x4x32 .f32) (r : Fin 10000) (h : Fin 4) :
    laneVar v (ix4 0 r h 0) = variance fun c => v (ix4 0 r h c) := by
  have hpos : (0 : EReal) < Ideal.ofBits .f32 0x42000000#32 := by rw [word32]; exact_mod_cast (by norm_num : (0 : ℝ) < 32)
  simp only [variance, ← centred_at]
  rw [show (∑ c, centred v (ix4 0 r h c) * centred v (ix4 0 r h c)) = laneSum (mulf (centred v) (centred v)) (ix4 0 r h 0)
    from by rw [laneSum_at]; pointwise]
  pointwise [laneVar]
  rw [lanes_at, if_pos hpos]

/-- A weight or bias, at any node and head. -/
theorem perLane_at (w : FVec Ideal S32 .f32) (r : Fin 10000) (h : Fin 4) (c : Fin 32) :
    perLane w (ix4 0 r h c) = w (ix1 c) := by
  pointwise [perLane]

/-- The normalisation, at node `r`, head `h` and lane `c`. -/
theorem normalised_at (v : FVec Ideal S1x10000x4x32 .f32) (w b : FVec Ideal S32 .f32) (r : Fin 10000) (h : Fin 4)
    (c : Fin 32) :
    normalised v w b (ix4 0 r h c) = normed (fun c => v (ix4 0 r h c)) (fun c => w (ix1 c)) (fun c => b (ix1 c)) c := by
  rw [← normed_eq, ← laneVar_at, ← centred_at, ← perLane_at w r h c, ← perLane_at b r h c]
  pointwise [normalised, spread, fillHeads]

/-- The heads side by side, at node `r` and column `c`. -/
theorem joined_at (v : FVec Ideal S1x10000x4x32 .f32) (r : Fin 10000) (c : Fin 128) :
    joined v (ix3 0 r c) = v (ix4 0 r (headOf c) (laneOf c)) := by
  pointwise [joined]
  rfl

variable (x : FVec Ideal S1x10000x128 .f32) (A : FVec Ideal S10000x10000 .f32) (wk wq : FVec Ideal S64x128 .f32)
  (wv : FVec Ideal S128x128 .f32) (w b : FVec Ideal S32 .f32)

/-- The node features as rows. -/
abbrev rows : FVec Ideal Cert.KernelIdeal.S10000x128 .f32 :=
  shapeCast Cert.KernelIdeal.S10000x128 x Cert.KernelIdeal.Gen.shapeCasts_S1x10000x128_S10000x128

/-- A row of node features. -/
theorem rows_at (r : Fin 10000) (i : Fin 128) : rows x (ix2 r i) = x (ix3 0 r i) := by
  pointwise [rows]

/-- The reference's keys or queries are those of the layer. -/
theorem feature_keys (r : Fin 10000) (c : Fin 64) : feature x wk (ix3 0 r c) = keys (rows x) wk (ix2 r c) := by
  rw [feature_at]
  simp only [← rows_at]
  rfl

/-- The reference's values are those of the layer. -/
theorem value_vals (r : Fin 10000) (c : Fin 128) : value x wv (ix3 0 r c) = vals (rows x) wv (ix2 r c) := by
  rw [value_at]
  simp only [← rows_at]
  rfl

/-- A step of the reference, split into heads, is a step of the layer. -/
theorem step_hop (p : FVec Ideal S10000x1x4x16 .f32) (p' : FVec Ideal Cert.KernelIdeal.S10000x64 .f32)
    (hp : ∀ r h a, p (ix4 r 0 h a) = p' (ix2 r (col16 h a))) (r : Fin 10000) (h : Fin 4) (a : Fin 16) :
    step A p (ix4 r 0 h a) = hop A (decayed p' decays) (ix2 r (col16 h a)) := by
  rw [step_at]
  simp only [hp]
  rfl

/-- The propagated keys of the reference are those of the layer. -/
theorem propagated_total (k : FVec Ideal S10000x1x4x16 .f32) (k' : FVec Ideal Cert.KernelIdeal.S10000x64 .f32)
    (hk : ∀ r h a, k (ix4 r 0 h a) = k' (ix2 r (col16 h a))) (r : Fin 10000) (h : Fin 4) (a : Fin 16) :
    propagated A k (ix4 r 0 h a)
      = total k' (hop A (decayed k' decays)) (hop A (decayed (hop A (decayed k' decays)) decays)) (ix2 r (col16 h a)) := by
  rw [total, ← step_hop A (step A k) _ (step_hop A k k' hk), ← step_hop A k k' hk, ← hk]
  pointwise [propagated]

/-- The reference's first result is the layer, with a leading axis of length one. -/
theorem output_eq : output x A wk wq wv w b
    = shapeCast Cert.KernelIdeal.S1x10000x128 (layer (rows x) A wk wq wv decays (row32 w) (row32 b))
      Cert.KernelIdeal.Gen.shapeCasts_S10000x128_S1x10000x128 := by
  funext j
  obtain ⟨i, r, c, rfl⟩ : ∃ (i : Fin 1) (r : Fin 10000) (c : Fin 128), j = ix3 i r c :=
    ⟨j 0, j 1, j 2, funext fun a => by fin_cases a <;> rfl⟩
  obtain rfl : i = 0 := Subsingleton.elim _ _
  have hk : ∀ r h a, split (feature x wk) (ix4 r 0 h a) = keys (rows x) wk (ix2 r (col16 h a)) := fun r h a => by
    rw [split_at, feature_keys]
  rw [output, joined_at, normalised_at]
  simp only [gatedValues_at, gate_at, propagated_total A _ _ hk, feature_keys, value_vals]
  pointwise [layer, heads]
  rfl

end Cert.RefValue

end
-- ==== Proof.lean ====
/-
  The certificate's five claims, put together: the three runs, the idealization, and the equality of the kernel's results
  with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference runs, its arguments unchanged; it declares no semaphore, so every counter is zero. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The kernel and the reference, over the extended reals and from equal arguments, end with equal results: the first is
    the layer of `Spec` at the arguments, the second the connection matrix. -/
theorem same_results : Cert.algebraic_KernelIdeal_ReferenceIdeal := fun m ρ m' ρ' _ hagree =>
  ⟨Cert.KernelRun.result m, fun c => m ((c.tc : Thread _ _).loc Cert.KernelIdeal.main_arg1), Cert.KernelRun.run m ρ,
    (θ_run Cert.ReferenceIdeal.defs _ _).mono
      (fun r h c => by
        obtain ⟨h0, h1, h2, h3, h4, h5, h6⟩ := hagree c
        refine ⟨(h c).1.trans ((Cert.RefTerm.result_eq m' c).trans ?_), (h c).2.1.trans h1, (h c).2.2⟩
        rw [h0, h1, h2, h3, h4, h5, h6]
        exact Cert.RefValue.output_eq _ _ _ _ _ _ _)
      (Cert.ReferenceIdeal.Value.run m' ρ')⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_results⟩

end Cert.Proof

end
